-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x128 : Shape := ⟨3, ![4, 4096, 128]⟩
abbrev S4x4096x4096 : Shape := ⟨3, ![4, 4096, 4096]⟩
abbrev S4x4 : Shape := ⟨2, ![4, 4]⟩
abbrev S4x128x128 : Shape := ⟨3, ![4, 128, 128]⟩
abbrev S_ : Shape := ⟨0, ![]⟩

class Facts : Prop where
  bcast_S_S4x4096x128 : S_.BroadcastsInDim S4x4096x128 (![] : Fin 0 → Fin S4x4096x128.rank)
  bcast_S_S4x4096x4096 : S_.BroadcastsInDim S4x4096x4096 (![] : Fin 0 → Fin S4x4096x4096.rank)
  bcast_S_S4x4 : S_.BroadcastsInDim S4x4 (![] : Fin 0 → Fin S4x4.rank)
  bcast_S_S4x128x128 : S_.BroadcastsInDim S4x128x128 (![] : Fin 0 → Fin S4x128x128.rank)

variable [Facts]

def fn {F : FTy → Type} [FloatOps F] (main_arg0 : FVec F S4x4096x128 .f32) (main_arg1 : FVec F S4x4096x4096 .f32) (main_arg2 : FVec F S4x4 .f32) (main_arg3 : FVec F S4x128x128 .f32) (main_arg4 : FVec F S4x4096x128 .f32) : IVec S4x4096x128 1 × IVec S4x4096x4096 1 × IVec S4x4 1 × IVec S4x128x128 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_v3 : FVec F S4x4096x4096 .f32 := Host.absf main_arg1
  let main_cst_0 : FVec F S_ .f32 := constant S_ .f32 0x7F800000#32
  let main_v4 : FVec F S4x4096x4096 .f32 := broadcastInDim S4x4096x4096 ![] bcast_S_S4x4096x4096 main_cst_0
  let main_v5 : IVec S4x4096x4096 1 := cmpf .olt main_v3 main_v4
  let main_v6 : FVec F S4x4 .f32 := Host.absf main_arg2
  let main_cst_1 : FVec F S_ .f32 := constant S_ .f32 0x7F800000#32
  let main_v7 : FVec F S4x4 .f32 := broadcastInDim S4x4 ![] bcast_S_S4x4 main_cst_1
  let main_v8 : IVec S4x4 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  (main_v2, main_v5, main_v8, main_v11)
-- ==== Kernel.lean ====
abbrev S4x4096x128 : Shape := ⟨3, ![4, 4096, 128]⟩
abbrev S4x4096x4096 : Shape := ⟨3, ![4, 4096, 4096]⟩
abbrev S4x4 : Shape := ⟨2, ![4, 4]⟩
abbrev S4x128x128 : Shape := ⟨3, ![4, 128, 128]⟩
abbrev S1x256x4096 : Shape := ⟨3, ![1, 256, 4096]⟩
abbrev S4x256x128 : Shape := ⟨3, ![4, 256, 128]⟩
abbrev S1x1 : Shape := ⟨2, ![1, 1]⟩
abbrev S1x4096x128 : Shape := ⟨3, ![1, 4096, 128]⟩
abbrev S4096x128 : Shape := ⟨2, ![4096, 128]⟩
abbrev S1x128x128 : Shape := ⟨3, ![1, 128, 128]⟩
abbrev S128x128 : Shape := ⟨2, ![128, 128]⟩
abbrev S256x4096 : Shape := ⟨2, ![256, 4096]⟩
abbrev S1x256x128 : Shape := ⟨3, ![1, 256, 128]⟩
abbrev S256x128 : Shape := ⟨2, ![256, 128]⟩

abbrev nBuf : Space → Nat
  | .hbm => 6
  | .vmem => 15
  | .smem => 1
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4, .f32⟩
  | .hbm, ⟨3, _⟩ => ⟨S4x128x128, .f32⟩
  | .hbm, ⟨4, _⟩ => ⟨S4x4096x128, .f32⟩
  | .hbm, ⟨5, _⟩ => ⟨S4x4096x128, .f32⟩
  | .local _ .vmem, ⟨0, _⟩ => ⟨S4x4096x128, .f32⟩
  | .local _ .vmem, ⟨1, _⟩ => ⟨S4x128x128, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .f32⟩
  | .local _ .vmem, ⟨9, _⟩ => ⟨S1x256x4096, .f32⟩
  | .local _ .vmem, ⟨10, _⟩ => ⟨S4x256x128, .f32⟩
  | .local _ .vmem, ⟨11, _⟩ => ⟨S4x256x128, .f32⟩
  | .local _ .vmem, ⟨12, _⟩ => ⟨S4x256x128, .f32⟩
  | .local _ .vmem, ⟨13, _⟩ => ⟨S4x256x128, .f32⟩
  | .local _ .vmem, ⟨14, _⟩ => ⟨S4x4096x128, .f32⟩
  | .local _ .smem, ⟨0, _⟩ => ⟨S4x4, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x4096x128 : Shape := ⟨3, ![4, 4096, 128]⟩
abbrev S4x4096x4096 : Shape := ⟨3, ![4, 4096, 4096]⟩
abbrev S4x4 : Shape := ⟨2, ![4, 4]⟩
abbrev S4x128x128 : Shape := ⟨3, ![4, 128, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4, .f32⟩
  | .hbm, ⟨3, _⟩ => ⟨S4x128x128, .f32⟩
  | .hbm, ⟨4, _⟩ => ⟨S4x4096x128, .f32⟩
  | .hbm, ⟨5, _⟩ => ⟨S4x4096x4096, .f32⟩
  | .hbm, ⟨6, _⟩ => ⟨S4x4096x128, .f32⟩
  | .hbm, ⟨7, _⟩ => ⟨S4x4096x128, .f32⟩
  | .hbm, ⟨8, _⟩ => ⟨S4x4096x128, .f32⟩
  | .hbm, ⟨9, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Algebra.lean ====
/-
  The mathematics of the certificate: over real numbers the product (A X) W may be formed as A (X W).
-/
module

public import Mathlib.Data.EReal.Inv
public import Mathlib.Algebra.BigOperators.Fin

@[expose] public section

namespace Cert.MProduct

/-- A sum of real numbers, read as an extended real, is the sum of the numbers read so. -/
theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- An extended real that is neither infinity is a real number. -/
theorem exists_real {x : EReal} (h : max x (-x) < ⊤) : ∃ r : ℝ, x = (r : EReal) := by
  induction x using EReal.rec with
  | bot => simp at h
  | top => simp at h
  | coe r => exact ⟨r, rfl⟩

/-- Over the reals, multiplying by the weights first (`X W`, then `A (X W)`) and last (`A X`, then `(A X) W`) agree: the
    two finite sums exchange. -/
theorem reassoc_real {κ δ : Type*} [Fintype κ] [Fintype δ] (A : κ → ℝ) (X : κ → δ → ℝ) (w : δ → ℝ) :
    ∑ k, A k * ∑ d, X k d * w d = ∑ d, (∑ k, A k * X k d) * w d := by
  simp only [Finset.mul_sum, Finset.sum_mul]
  rw [Finset.sum_comm]
  exact Finset.sum_congr rfl fun d _ => Finset.sum_congr rfl fun k _ => (mul_assoc _ _ _).symm

/-- The same with both operands mixed from four slabs by four weights, over extended reals that are all finite. On the
    left the kernel's form (mixtures written out, `X W` formed first); on the right the reference's (mixtures as sums,
    `A X` formed first). -/
theorem mixed_reassoc {κ δ : Type*} [Fintype κ] [Fintype δ] (a : Fin 4 → EReal) (A : Fin 4 → κ → EReal)
    (X : Fin 4 → κ → δ → EReal) (w : δ → EReal)
    (ha : ∀ j, max (a j) (-a j) < ⊤) (hA : ∀ j k, max (A j k) (-A j k) < ⊤)
    (hX : ∀ j k d, max (X j k d) (-X j k d) < ⊤) (hw : ∀ d, max (w d) (-w d) < ⊤) :
    ∑ k, (a 0 * A 0 k + a 1 * A 1 k + a 2 * A 2 k + a 3 * A 3 k)
        * ∑ d, (a 0 * X 0 k d + a 1 * X 1 k d + a 2 * X 2 k d + a 3 * X 3 k d) * w d
      = ∑ d, (∑ k, (∑ j, a j * A j k) * (∑ j, a j * X j k d)) * w d := by
  choose a' ha' using fun j => exists_real (ha j)
  choose A' hA' using fun j k => exists_real (hA j k)
  choose X' hX' using fun j k d => exists_real (hX j k d)
  choose w' hw' using fun d => exists_real (hw d)
  simp only [ha', hA', hX', hw', Fin.sum_univ_four, ← EReal.coe_mul, ← EReal.coe_add, ← coe_sum]
  exact congrArg _ (reassoc_real _ _ _)

end Cert.MProduct
-- ==== Proof.Payload.lean ====
/-
  The kernel body's two kinds of stored value, read at an index over the extended reals.

  `prep…`: one slab of the pre-multiplied operand, `(a₀ X₀ + a₁ X₁ + a₂ X₂ + a₃ X₃) W`, written to the scratch at the
  first grid point. `main…`: one slab of an output block, `b + (a₀ A₀ + a₁ A₁ + a₂ A₂ + a₃ A₃) V`, written at every
  point. The four slabs of each kind are the same function, cut differently by the printer.
-/
module

public import proofs.«01_k».proof.Proof.Gen.KernelIdeal.Value
public import Idealize.ShloMosaic.Lib.Pointwise
public import Idealize.ShloMosaic.Lib.Tactic

@[expose] public section

set_option maxRecDepth 16384

noncomputable section

namespace Cert.KernelIdeal.Values

open Cert.KernelIdeal Cert.KernelIdeal.Gen Idealize.ShloMosaic

/-- The mixture of four numbers with four weights, in the order in which the kernel adds it up. -/
def mix (a f : Fin 4 → EReal) : EReal := a 0 * f 0 + a 1 * f 1 + a 2 * f 2 + a 3 * f 3

/-- One slab written to the scratch, at row `p` and column `q`: the mixed row of the node features times a column of the
    weights. -/
theorem prep_apply (a0 a1 a2 a3 : Elt Ideal .f32) (X0 X1 X2 X3 : Vec Ideal S1x4096x128 .f32) (w : Vec Ideal S1x128x128 .f32)
    (z : Fin 1) (p : Fin 4096) (q : Fin 128) :
    k0_pay2 a0 X0 a1 X1 a2 X2 a3 X3 w (ix3 z p q)
      = ∑ d : Fin 128, (a0 * X0 (ix3 0 p d) + a1 * X1 (ix3 0 p d) + a2 * X2 (ix3 0 p d) + a3 * X3 (ix3 0 p d)) * w (ix3 0 d q) := by
  pointwise [k0_pay2]

/-- The second slab's value is the same function. -/
theorem prep1_eq (a0 a1 a2 a3 : Elt Ideal .f32) (X0 X1 X2 X3 : Vec Ideal S1x4096x128 .f32) (w : Vec Ideal S1x128x128 .f32) :
    k0_pay3 a0 X0 a1 X1 a2 X2 a3 X3 w = k0_pay2 a0 X0 a1 X1 a2 X2 a3 X3 w := rfl
/-- The third slab's value is the same function. -/
theorem prep2_eq (a0 a1 a2 a3 : Elt Ideal .f32) (X0 X1 X2 X3 : Vec Ideal S1x4096x128 .f32) (w : Vec Ideal S1x128x128 .f32) :
    k0_pay4 a0 X0 a1 X1 a2 X2 a3 X3 w = k0_pay2 a0 X0 a1 X1 a2 X2 a3 X3 w := rfl
/-- The fourth slab's value is the same function. -/
theorem prep3_eq (a0 a1 a2 a3 : Elt Ideal .f32) (X0 X1 X2 X3 : Vec Ideal S1x4096x128 .f32) (w : Vec Ideal S1x128x128 .f32) :
    k0_pay7 (k0_pay5 X0) (k0_pay6 a0) a1 X1 a2 X2 a3 X3 w = k0_pay2 a0 X0 a1 X1 a2 X2 a3 X3 w := rfl

/-- One slab of an output block, at row `p` and column `q`: the bias plus the mixed adjacency row times a column of the
    scratch's slab. -/
theorem main_apply (a0 a1 a2 a3 : Elt Ideal .f32) (A0 A1 A2 A3 : Vec Ideal S1x256x4096 .f32) (b : Vec Ideal S1x256x128 .f32)
    (v : Vec Ideal S1x4096x128 .f32) (z : Fin 1) (p : Fin 256) (q : Fin 128) :
    k0_pay16 (k0_pay8 A0) (k0_pay9 A1) (k0_pay10 A2) (k0_pay11 A3) a0 a1 a2 a3 b v (ix3 z p q)
      = b (ix3 0 p q) + ∑ k : Fin 4096, (a0 * A0 (ix3 0 p k) + a1 * A1 (ix3 0 p k) + a2 * A2 (ix3 0 p k) + a3 * A3 (ix3 0 p k)) * v (ix3 0 k q) := by
  pointwise [k0_pay16, k0_pay8, k0_pay9, k0_pay10, k0_pay11]

/-- The first slab's value is the same function. -/
theorem main0_eq (a0 a1 a2 a3 : Elt Ideal .f32) (A0 A1 A2 A3 : Vec Ideal S1x256x4096 .f32) (b : Vec Ideal S1x256x128 .f32)
    (v : Vec Ideal S1x4096x128 .f32) :
    k0_pay15 (k0_pay12 A0 A1 A2 A3 a0 a1 a2 a3) (k0_pay13 b) (k0_pay14 v)
      = k0_pay16 (k0_pay8 A0) (k0_pay9 A1) (k0_pay10 A2) (k0_pay11 A3) a0 a1 a2 a3 b v := rfl
/-- The third slab's value is the same function. -/
theorem main2_eq (a0 a1 a2 a3 : Elt Ideal .f32) (A0 A1 A2 A3 : Vec Ideal S1x256x4096 .f32) (b : Vec Ideal S1x256x128 .f32)
    (v : Vec Ideal S1x4096x128 .f32) :
    k0_pay18 (k0_pay9 A1) (k0_pay10 A2) (k0_pay11 A3) (k0_pay17 (k0_pay8 A0) a0) a1 a2 a3 b v
      = k0_pay16 (k0_pay8 A0) (k0_pay9 A1) (k0_pay10 A2) (k0_pay11 A3) a0 a1 a2 a3 b v := rfl
/-- The fourth slab's value is the same function. -/
theorem main3_eq (a0 a1 a2 a3 : Elt Ideal .f32) (A0 A1 A2 A3 : Vec Ideal S1x256x4096 .f32) (b : Vec Ideal S1x256x128 .f32)
    (v : Vec Ideal S1x4096x128 .f32) :
    k0_pay1 (k0_pay19 (k0_pay8 A0) (k0_pay9 A1) (k0_pay10 A2) (k0_pay11 A3) a0 a1 a2 a3) b v
      = k0_pay16 (k0_pay8 A0) (k0_pay9 A1) (k0_pay10 A2) (k0_pay11 A3) a0 a1 a2 a3 b v := rfl

end Cert.KernelIdeal.Values
-- ==== Proof.Block.lean ====
/-
  What one run of the kernel's body leaves: the scratch after the first grid point, and the output block after any point.
-/
module

public import proofs.«01_k».proof.Proof.Payload

@[expose] public section

set_option maxRecDepth 16384

noncomputable section

namespace Cert.KernelIdeal.Values

open Cert.KernelIdeal Cert.KernelIdeal.Gen Idealize.ShloMosaic

/-- What the scratch holds once it is written: at `(t, m, o)` the mixed node features of row `m` times column `o` of
    slab `t` of the weights. -/
def scratchOf (M : Vec Ideal S4x4 .f32) (X : Vec Ideal S4x4096x128 .f32) (W : Vec Ideal S4x128x128 .f32) :
    Vec Ideal S4x4096x128 .f32 :=
  fun y => ∑ d : Fin 128, mix (fun j => M (ix2 (y 0) j)) (fun j => X (ix3 j (y 1) d)) * W (ix3 (y 0) d (y 2))

/-- What a grid point leaves in its output block, from the four adjacency blocks, the bias block and the scratch. -/
def blockOf (M : Vec Ideal S4x4 .f32) (A : Fin 4 → Vec Ideal S1x256x4096 .f32) (b : Vec Ideal S4x256x128 .f32)
    (v : Vec Ideal S4x4096x128 .f32) : Vec Ideal S4x256x128 .f32 :=
  fun y => b y + ∑ k : Fin 4096, mix (fun j => M (ix2 (y 0) j)) (fun j => A j (ix3 0 (y 1) k)) * v (ix3 (y 0) k (y 2))

/-- The place of an element of slab `k` of a four-slab array: row and column stay. -/
theorem emb_slab {n l : ℕ} (k : ℕ) (hk : k < 4) (inb : ∀ a, ![k, 0, 0] a + ![1, n, l] a ≤ (⟨3, ![4, n, l]⟩ : Shape).size a)
    (x : (⟨3, ![1, n, l]⟩ : Shape).Idx) :
    (Rect.unit (s := ⟨3, ![4, n, l]⟩) ![k, 0, 0] ![1, n, l] inb).emb x = ix3 ⟨k, hk⟩ (x 1) (x 2) := by
  have h0 : (x 0).val = 0 := Nat.lt_one_iff.mp (x 0).isLt
  funext a
  apply Fin.ext
  match a with
  | ⟨0, _⟩ => show k + 1 * (x 0).val = k; omega
  | ⟨1, _⟩ => show 0 + 1 * (x 1).val = (x 1).val; omega
  | ⟨2, _⟩ => show 0 + 1 * (x 2).val = (x 2).val; omega

/-- Slab `k` of a four-slab array, read at an index. -/
theorem ld_slab {n l : ℕ} (X : (⟨3, ![4, n, l]⟩ : Shape).Idx → EReal) (k : ℕ) (hk : k < 4)
    (inb : ∀ a, ![k, 0, 0] a + ![1, n, l] a ≤ (⟨3, ![4, n, l]⟩ : Shape).size a) (p : Fin n) (q : Fin l) :
    View.ld (Val := Elt Ideal) (e' := .f32) X (Rect.unit (s := ⟨3, ![4, n, l]⟩) ![k, 0, 0] ![1, n, l] inb) (ix3 0 p q) = X (ix3 ⟨k, hk⟩ p q) :=
  congrArg X (emb_slab k hk inb (ix3 0 p q))

/-- A whole adjacency block, read at no offset. -/
theorem ld_whole (A : Vec Ideal S1x256x4096 .f32) (inb : ∀ a, ![0, 0, 0] a + ![1, 256, 4096] a ≤ S1x256x4096.size a) :
    View.ld A (Rect.unit (s := S1x256x4096) ![0, 0, 0] ![1, 256, 4096] inb) = A :=
  View.ld_unit_zero (S := S1x256x4096) (by decide) inb A

/-- One entry of the mixing matrix, read as a one-by-one block. -/
theorem ld_entry (M : Vec Ideal S4x4 .f32) (k j : ℕ) (hk : k < 4) (hj : j < 4)
    (inb : ∀ a, ![k, j] a + ![1, 1] a ≤ S4x4.size a) (h : 0 < S1x1.numel) :
    View.ld M (Rect.unit (s := S4x4) ![k, j] ![1, 1] inb) (Shape.Idx.first h) = M (ix2 ⟨k, hk⟩ ⟨j, hj⟩) := by
  refine congrArg M ?_
  funext a
  apply Fin.ext
  match a with
  | ⟨0, _⟩ => rfl
  | ⟨1, _⟩ => rfl

section Slabs

variable (M : Vec Ideal S4x4 .f32) (k : ℕ) (hk : k < 4) (h : 0 < S1x1.numel)
  (i0 : ∀ a, ![k, 0] a + ![1, 1] a ≤ S4x4.size a) (i1 : ∀ a, ![k, 1] a + ![1, 1] a ≤ S4x4.size a)
  (i2 : ∀ a, ![k, 2] a + ![1, 1] a ≤ S4x4.size a) (i3 : ∀ a, ![k, 3] a + ![1, 1] a ≤ S4x4.size a)

include hk

/-- Slab `k` as stored to the scratch is slab `k` of `scratchOf`. -/
theorem prep_slab (X : Vec Ideal S4x4096x128 .f32) (W : Vec Ideal S4x128x128 .f32)
    (j0 : ∀ a, ![0, 0, 0] a + ![1, 4096, 128] a ≤ S4x4096x128.size a) (j1 : ∀ a, ![1, 0, 0] a + ![1, 4096, 128] a ≤ S4x4096x128.size a)
    (j2 : ∀ a, ![2, 0, 0] a + ![1, 4096, 128] a ≤ S4x4096x128.size a) (j3 : ∀ a, ![3, 0, 0] a + ![1, 4096, 128] a ≤ S4x4096x128.size a)
    (w : ∀ a, ![k, 0, 0] a + ![1, 128, 128] a ≤ S4x128x128.size a) (o : ∀ a, ![k, 0, 0] a + ![1, 4096, 128] a ≤ S4x4096x128.size a)
    (x : S1x4096x128.Idx) :
    k0_pay2 (View.ld M (Rect.unit (s := S4x4) ![k, 0] ![1, 1] i0) (Shape.Idx.first h)) (View.ld X (Rect.unit (s := S4x4096x128) ![0, 0, 0] ![1, 4096, 128] j0))
      (View.ld M (Rect.unit (s := S4x4) ![k, 1] ![1, 1] i1) (Shape.Idx.first h)) (View.ld X (Rect.unit (s := S4x4096x128) ![1, 0, 0] ![1, 4096, 128] j1))
      (View.ld M (Rect.unit (s := S4x4) ![k, 2] ![1, 1] i2) (Shape.Idx.first h)) (View.ld X (Rect.unit (s := S4x4096x128) ![2, 0, 0] ![1, 4096, 128] j2))
      (View.ld M (Rect.unit (s := S4x4) ![k, 3] ![1, 1] i3) (Shape.Idx.first h)) (View.ld X (Rect.unit (s := S4x4096x128) ![3, 0, 0] ![1, 4096, 128] j3))
      (View.ld W (Rect.unit (s := S4x128x128) ![k, 0, 0] ![1, 128, 128] w)) x
    = scratchOf M X W ((Rect.unit (s := S4x4096x128) ![k, 0, 0] ![1, 4096, 128] o).emb x) := by
  refine Eq.trans ?_ (congrArg (scratchOf M X W) (emb_slab k hk o x).symm)
  rw [eq_ix3 x]
  refine (prep_apply _ _ _ _ _ _ _ _ _ _ _ _).trans (Finset.sum_congr rfl fun d _ => ?_)
  rw [ld_entry M k 0 hk (by decide), ld_entry M k 1 hk (by decide), ld_entry M k 2 hk (by decide), ld_entry M k 3 hk (by decide)]
  exact congrArg₂ (· * ·)
    (congrArg₂ (· + ·) (congrArg₂ (· + ·) (congrArg₂ (· + ·) (congrArg _ (ld_slab X 0 (by decide) j0 _ _)) (congrArg _ (ld_slab X 1 (by decide) j1 _ _)))
      (congrArg _ (ld_slab X 2 (by decide) j2 _ _))) (congrArg _ (ld_slab X 3 (by decide) j3 _ _)))
    (ld_slab W k hk w _ _)

/-- Slab `k` as stored to the output block is slab `k` of `blockOf`. -/
theorem main_slab (A0 A1 A2 A3 : Vec Ideal S1x256x4096 .f32) (b : Vec Ideal S4x256x128 .f32) (v : Vec Ideal S4x4096x128 .f32)
    (j : ∀ a, ![k, 0, 0] a + ![1, 256, 128] a ≤ S4x256x128.size a) (w : ∀ a, ![k, 0, 0] a + ![1, 4096, 128] a ≤ S4x4096x128.size a)
    (o : ∀ a, ![k, 0, 0] a + ![1, 256, 128] a ≤ S4x256x128.size a) (x : S1x256x128.Idx) :
    k0_pay16 (k0_pay8 A0) (k0_pay9 A1) (k0_pay10 A2) (k0_pay11 A3)
      (View.ld M (Rect.unit (s := S4x4) ![k, 0] ![1, 1] i0) (Shape.Idx.first h)) (View.ld M (Rect.unit (s := S4x4) ![k, 1] ![1, 1] i1) (Shape.Idx.first h))
      (View.ld M (Rect.unit (s := S4x4) ![k, 2] ![1, 1] i2) (Shape.Idx.first h)) (View.ld M (Rect.unit (s := S4x4) ![k, 3] ![1, 1] i3) (Shape.Idx.first h))
      (View.ld b (Rect.unit (s := S4x256x128) ![k, 0, 0] ![1, 256, 128] j)) (View.ld v (Rect.unit (s := S4x4096x128) ![k, 0, 0] ![1, 4096, 128] w)) x
    = blockOf M ![A0, A1, A2, A3] b v ((Rect.unit (s := S4x256x128) ![k, 0, 0] ![1, 256, 128] o).emb x) := by
  refine Eq.trans ?_ (congrArg (blockOf M ![A0, A1, A2, A3] b v) (emb_slab k hk o x).symm)
  rw [eq_ix3 x]
  refine (main_apply _ _ _ _ _ _ _ _ _ _ _ _ _).trans ?_
  rw [ld_entry M k 0 hk (by decide), ld_entry M k 1 hk (by decide), ld_entry M k 2 hk (by decide), ld_entry M k 3 hk (by decide)]
  exact congrArg₂ (· + ·) (ld_slab b k hk j _ _) (Finset.sum_congr rfl fun m _ => congrArg _ (ld_slab v k hk w _ _))

end Slabs

section Body

variable (c : Dev nD) (i : grid0.Coords) (arg1 : Memref sig .tc .smem S4x4 .f32) (harg1 : arg1.IsWhole) (arg2 : Memref sig .tc .vmem S4x4096x128 .f32) (harg2 : arg2.IsWhole) (arg3 : Memref sig .tc .vmem S4x128x128 .f32) (harg3 : arg3.IsWhole)
  (arg4 : Memref sig .tc .vmem S1x256x4096 .f32) (harg4 : arg4.IsWhole) (arg5 : Memref sig .tc .vmem S1x256x4096 .f32) (harg5 : arg5.IsWhole) (arg6 : Memref sig .tc .vmem S1x256x4096 .f32) (harg6 : arg6.IsWhole) (arg7 : Memref sig .tc .vmem S1x256x4096 .f32) (harg7 : arg7.IsWhole)
  (arg8 : Memref sig .tc .vmem S4x256x128 .f32) (harg8 : arg8.IsWhole) (arg9 : Memref sig .tc .vmem S4x256x128 .f32) (harg9 : arg9.IsWhole) (arg10 : Memref sig .tc .vmem S4x4096x128 .f32) (harg10 : arg10.IsWhole)
  (x0 : Vec Ideal S4x4 .f32) (x1 : Vec Ideal S4x4096x128 .f32) (x2 : Vec Ideal S4x128x128 .f32) (x3 x4 x5 x6 : Vec Ideal S1x256x4096 .f32) (x7 : Vec Ideal S4x256x128 .f32)

/-- The scratch after the first grid point. -/
theorem sout0_A_eq (hc0 : cond0_0 i) : sout0_A_0 (F := Ideal) c i arg1 harg1 arg2 harg2 arg3 harg3 arg4 harg4 arg5 harg5 arg6 harg6 arg7 harg7 arg8 harg8 arg9 harg9 arg10 harg10 hc0 x0 x1 x2 x3 x4 x5 x6 x7 = scratchOf x0 x1 x2 := by
  have hcov := scover0_A_0 (F := Ideal) c i arg1 harg1 arg2 harg2 arg3 harg3 arg4 harg4 arg5 harg5 arg6 harg6 arg7 harg7 arg8 harg8 arg9 harg9 arg10 harg10 hc0 x0 x1 x2 x3 x4 x5 x6 x7
  unfold sout0_A_0
  rw [View.read_writes_eq_canon _ _ _ hcov]
  funext y
  refine View.canon_apply_of_pieces _ _ ?_ y (hcov y)
  clear hcov
  unfold kernelRun0_A; dsimp only; sl_unfold_words
  simp only [View.readAt_eq_ld, harg1.read_unread, harg2.read_unread, harg3.read_unread, harg4.read_unread, harg5.read_unread, harg6.read_unread, harg7.read_unread, harg8.read_unread]
  simp only [List.mem_cons, List.not_mem_nil, or_false, forall_eq_or_imp, forall_eq, prep1_eq, prep2_eq, prep3_eq]
  exact ⟨prep_slab x0 3 (by decide) _ _ _ _ _ x1 x2 _ _ _ _ _ _, prep_slab x0 2 (by decide) _ _ _ _ _ x1 x2 _ _ _ _ _ _,
    prep_slab x0 1 (by decide) _ _ _ _ _ x1 x2 _ _ _ _ _ _, prep_slab x0 0 (by decide) _ _ _ _ _ x1 x2 _ _ _ _ _ _⟩

/-- A later grid point leaves the scratch as it found it. -/
theorem sout0_B_eq (hc0 : ¬cond0_0 i) (v : Vec Ideal S4x4096x128 .f32) : sout0_B_0 (F := Ideal) c i arg1 harg1 arg2 harg2 arg3 harg3 arg4 harg4 arg5 harg5 arg6 harg6 arg7 harg7 arg8 harg8 arg9 harg9 arg10 harg10 hc0 x0 x1 x2 x3 x4 x5 x6 x7 v = v := by
  unfold sout0_B_0
  rfl

/-- The output block after a later grid point, from the scratch it finds. -/
theorem out0_B_eq (hc0 : ¬cond0_0 i) (v : Vec Ideal S4x4096x128 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 v = blockOf x0 ![x3, x4, x5, x6] x7 v := by
  have hcov := cover0_B_8 (F := Ideal) c i arg1 harg1 arg2 harg2 arg3 harg3 arg4 harg4 arg5 harg5 arg6 harg6 arg7 harg7 arg8 harg8 arg9 harg9 arg10 harg10 hc0 x0 x1 x2 x3 x4 x5 x6 x7 v
  unfold out0_B_8
  rw [View.read_writes_eq_canon _ _ _ hcov]
  funext y
  refine View.canon_apply_of_pieces _ _ ?_ y (hcov y)
  clear hcov
  unfold kernelRun0_B; dsimp only; sl_unfold_words
  simp only [View.readAt_eq_ld, harg1.read_unread, harg2.read_unread, harg3.read_unread, harg4.read_unread, harg5.read_unread, harg6.read_unread, harg7.read_unread, harg8.read_unread, harg10.read_unread]
  simp only [List.mem_cons, List.not_mem_nil, or_false, forall_eq_or_imp, forall_eq, main0_eq, main2_eq, main3_eq, ld_whole]
  exact ⟨main_slab x0 3 (by decide) _ _ _ _ _ x3 x4 x5 x6 x7 v _ _ _, main_slab x0 2 (by decide) _ _ _ _ _ x3 x4 x5 x6 x7 v _ _ _,
    main_slab x0 1 (by decide) _ _ _ _ _ x3 x4 x5 x6 x7 v _ _ _, main_slab x0 0 (by decide) _ _ _ _ _ x3 x4 x5 x6 x7 v _ _ _⟩

/-- The output block after the first grid point: it reads the scratch it has just written. -/
theorem out0_A_eq (hc0 : cond0_0 i) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 = blockOf x0 ![x3, x4, x5, x6] x7 (scratchOf x0 x1 x2) := by
  have hcov := cover0_A_8 (F := Ideal) c i arg1 harg1 arg2 harg2 arg3 harg3 arg4 harg4 arg5 harg5 arg6 harg6 arg7 harg7 arg8 harg8 arg9 harg9 arg10 harg10 hc0 x0 x1 x2 x3 x4 x5 x6 x7
  have hv := sout0_A_eq c i arg1 harg1 arg2 harg2 arg3 harg3 arg4 harg4 arg5 harg5 arg6 harg6 arg7 harg7 arg8 harg8 arg9 harg9 arg10 harg10 x0 x1 x2 x3 x4 x5 x6 x7 hc0
  have hscov := scover0_A_0 (F := Ideal) c i arg1 harg1 arg2 harg2 arg3 harg3 arg4 harg4 arg5 harg5 arg6 harg6 arg7 harg7 arg8 harg8 arg9 harg9 arg10 harg10 hc0 x0 x1 x2 x3 x4 x5 x6 x7
  unfold sout0_A_0 at hv
  rw [View.read_writes_eq_canon _ _ _ hscov] at hv
  unfold out0_A_8
  rw [View.read_writes_eq_canon _ _ _ hcov]
  funext y
  refine View.canon_apply_of_pieces _ _ ?_ y (hcov y)
  clear hcov
  revert hv hscov
  unfold kernelRun0_A; dsimp only; sl_unfold_words
  intro hv hscov
  simp only [View.readCov_eq_canon_ld _ _ _ hscov, hv]
  clear hv hscov
  simp only [View.readAt_eq_ld, harg1.read_unread, harg2.read_unread, harg3.read_unread, harg4.read_unread, harg5.read_unread, harg6.read_unread, harg7.read_unread, harg8.read_unread]
  simp only [List.mem_cons, List.not_mem_nil, or_false, forall_eq_or_imp, forall_eq, main0_eq, main2_eq, main3_eq, ld_whole]
  exact ⟨main_slab x0 3 (by decide) _ _ _ _ _ x3 x4 x5 x6 x7 _ _ _ _, main_slab x0 2 (by decide) _ _ _ _ _ x3 x4 x5 x6 x7 _ _ _ _,
    main_slab x0 1 (by decide) _ _ _ _ _ x3 x4 x5 x6 x7 _ _ _ _, main_slab x0 0 (by decide) _ _ _ _ _ x3 x4 x5 x6 x7 _ _ _ _⟩

end Body

end Cert.KernelIdeal.Values
-- ==== Proof.Array.lean ====
/-
  What the kernel's output array holds at the end: the blocks of all sixteen grid points, put together.
-/
module

public import proofs.«01_k».proof.Proof.Block

@[expose] public section

set_option maxRecDepth 16384

noncomputable section

namespace Cert.KernelIdeal.Values

open Cert.KernelIdeal Cert.KernelIdeal.Gen Cert.KernelIdeal.Value Idealize.ShloMosaic

/-- The kernel's result as one formula over its whole argument arrays: the bias plus the mixed adjacency times the scratch. -/
def resultOf (x : Vec Ideal S4x4096x128 .f32) (adj : Vec Ideal S4x4096x4096 .f32) (M : Vec Ideal S4x4 .f32)
    (W : Vec Ideal S4x128x128 .f32) (b : Vec Ideal S4x4096x128 .f32) : Vec Ideal S4x4096x128 .f32 :=
  fun i => b i + ∑ k : Fin 4096, mix (fun j => M (ix2 (i 0) j)) (fun j => adj (ix3 j (i 1) k)) * scratchOf M x W (ix3 (i 0) k (i 2))

/-- Where each window's block lies at grid point `t`: the mixing matrix, the features and the weights are whole; the four
    adjacency windows are at slabs 0 to 3, row block `t`; the bias is at row block `t`. -/
theorem idx_in : ∀ t : Fin cfg0.N, win0_0.index t = ![0, 0] ∧ win0_1.index t = ![0, 0, 0] ∧ win0_2.index t = ![0, 0, 0]
    ∧ win0_3.index t = ![0, t.val, 0] ∧ win0_4.index t = ![1, t.val, 0] ∧ win0_5.index t = ![2, t.val, 0]
    ∧ win0_6.index t = ![3, t.val, 0] ∧ win0_7.index t = ![0, t.val, 0] :=
  (by decide +kernel : ∀ t : Fin grid0.N, _)

/-- An array read through one block as large as itself keeps its places. -/
theorem place_whole {s : Shape} (f : Fin s.rank → ℕ) (hf : ∀ a, f a = 0) (q y : s.Idx)
    (h : ∀ a, (q a).val = f a * s.size a + 1 * (y a).val) : q = y :=
  funext fun a => Fin.ext (by rw [h a, hf a]; omega)

/-- The place of a one-slab row block of the adjacency: slab `j`, rows from `256 t`. -/
theorem place_adj (f : Fin 3 → ℕ) (j : Fin 4) (t : ℕ) (hf : f = ![j.val, t, 0]) (p : Fin 256) (k i : Fin 4096)
    (hi : i.val = t * 256 + p.val) (q : S4x4096x4096.Idx) (h0 : (q 0).val = f 0 * 1 + 1 * 0)
    (h1 : (q 1).val = f 1 * 256 + 1 * p.val) (h2 : (q 2).val = f 2 * 4096 + 1 * k.val) : q = ix3 j i k := by
  subst hf
  funext a
  apply Fin.ext
  match a with
  | ⟨0, _⟩ => show (q 0).val = j.val; rw [h0]; simp
  | ⟨1, _⟩ => show (q 1).val = i.val; rw [h1, hi]; simp
  | ⟨2, _⟩ => show (q 2).val = k.val; rw [h2]; simp

/-- The coordinates of a zero index are zero. -/
theorem zero_vec {f : Fin 3 → ℕ} (hf : f = ![0, 0, 0]) (a : Fin 3) : f a = 0 := by
  subst hf; match a with | ⟨0, _⟩ => rfl | ⟨1, _⟩ => rfl | ⟨2, _⟩ => rfl

variable (m : (ℓ : Loc nD τ sig) → Buf (Elt Ideal) ℓ) (c : Dev nD)

/-- The node features in the initial memory. -/
abbrev argX : Vec Ideal S4x4096x128 .f32 := m ((c.tc : Thread nD τ).loc main_arg0)
/-- The adjacency in the initial memory. -/
abbrev argA : Vec Ideal S4x4096x4096 .f32 := m ((c.tc : Thread nD τ).loc main_arg1)
/-- The mixing matrix in the initial memory. -/
abbrev argM : Vec Ideal S4x4 .f32 := m ((c.tc : Thread nD τ).loc main_arg2)
/-- The weights in the initial memory. -/
abbrev argW : Vec Ideal S4x128x128 .f32 := m ((c.tc : Thread nD τ).loc main_arg3)
/-- The bias in the initial memory. -/
abbrev argB : Vec Ideal S4x4096x128 .f32 := m ((c.tc : Thread nD τ).loc main_arg4)

/-- Every grid point reads the whole mixing matrix. -/
theorem blk_M (t : Fin cfg0.N) : (iblk m c 0 t : Vec Ideal S4x4 .f32) = argM m c :=
  funext fun y => congrArg (argM m c) (place_whole (s := S4x4) (win0_0.index t)
    (fun a => by rw [(idx_in t).1]; match a with | ⟨0, _⟩ => rfl | ⟨1, _⟩ => rfl) _ y fun _ => rfl)

/-- Every grid point reads all the node features. -/
theorem blk_x (t : Fin cfg0.N) : (iblk m c 1 t : Vec Ideal S4x4096x128 .f32) = argX m c :=
  funext fun y => congrArg (argX m c) (place_whole (s := S4x4096x128) (win0_1.index t) (zero_vec (idx_in t).2.1) _ y fun _ => rfl)

/-- Every grid point reads all the weights. -/
theorem blk_W (t : Fin cfg0.N) : (iblk m c 2 t : Vec Ideal S4x128x128 .f32) = argW m c :=
  funext fun y => congrArg (argW m c) (place_whole (s := S4x128x128) (win0_2.index t) (zero_vec (idx_in t).2.2.1) _ y fun _ => rfl)

/-- The scratch after every grid point: written at the first, kept by the others. -/
theorem scratch_eq (n : ℕ) (hn : n < cfg0.N) :
    (outsAt0 m c n hn).2 = scratchOf (argM m c) (argX m c) (argW m c) := by
  induction n with
  | zero =>
    rw [outsAt0_A m c ⟨0, hn⟩ (Nat.zero_mod _)]
    dsimp only
    rw [sout0_A_eq, blk_M, blk_x, blk_W]
  | succ n ih =>
    have hN := lt_of_lt_of_eq hn (show cfg0.N = 16 from N_0)
    rw [outsAt0_B m c ⟨n + 1, hn⟩ (show ¬(n + 1) % 16 = 0 by omega)]
    dsimp only
    rw [sout0_B_eq]
    exact ih _

/-- The output block after every grid point. -/
theorem block_eq (t : Fin cfg0.N) :
    (outsAt0 m c t.val t.isLt).1 = blockOf (argM m c) ![iblk m c 3 t, iblk m c 4 t, iblk m c 5 t, iblk m c 6 t]
      (iblk m c 7 t) (scratchOf (argM m c) (argX m c) (argW m c)) := by
  by_cases h : t.val % 16 = 0
  · rw [outsAt0_A m c t h]
    dsimp only
    rw [out0_A_eq, blk_M, blk_x, blk_W]
  · rw [outsAt0_B m c t h]
    dsimp only
    rw [out0_B_eq, scratch_eq, blk_M]

/-- A row of an adjacency window's block is the row of the array that lies `256 t` further down. -/
theorem blk_adj (t : Fin cfg0.N) (j : Fin 4) (p : Fin 256) (k : Fin 4096) (i : Fin 4096) (hi : i.val = t.val * 256 + p.val) :
    (![iblk m c 3 t, iblk m c 4 t, iblk m c 5 t, iblk m c 6 t] : Fin 4 → Vec Ideal S1x256x4096 .f32) j (ix3 0 p k)
      = argA m c (ix3 j i k) := by
  obtain ⟨-, -, -, e3, e4, e5, e6, -⟩ := idx_in t
  match j with
  | ⟨0, _⟩ => exact congrArg (argA m c) (place_adj (win0_3.index t) 0 t.val e3 p k i hi _ rfl rfl rfl)
  | ⟨1, _⟩ => exact congrArg (argA m c) (place_adj (win0_4.index t) 1 t.val e4 p k i hi _ rfl rfl rfl)
  | ⟨2, _⟩ => exact congrArg (argA m c) (place_adj (win0_5.index t) 2 t.val e5 p k i hi _ rfl rfl rfl)
  | ⟨3, _⟩ => exact congrArg (argA m c) (place_adj (win0_6.index t) 3 t.val e6 p k i hi _ rfl rfl rfl)

/-- A row of the bias window's block is the row of the array that lies `256 t` further down. -/
theorem blk_b (t : Fin cfg0.N) (y : S4x256x128.Idx) (i : S4x4096x128.Idx) (h0 : (i 0).val = (y 0).val)
    (h1 : (i 1).val = t.val * 256 + (y 1).val) (h2 : (i 2).val = (y 2).val) :
    (iblk m c 7 t : Vec Ideal S4x256x128 .f32) y = argB m c i := by
  obtain ⟨-, -, -, -, -, -, -, e⟩ := idx_in t
  refine congrArg (argB m c) (funext fun a => Fin.ext ?_)
  match a with
  | ⟨0, _⟩ => show win0_7.index t (0 : Fin 3) * 4 + 1 * (y 0).val = (i 0).val; rw [e, h0]; simp
  | ⟨1, _⟩ => show win0_7.index t (1 : Fin 3) * 256 + 1 * (y 1).val = (i 1).val; rw [e, h1]; simp
  | ⟨2, _⟩ => show win0_7.index t (2 : Fin 3) * 128 + 1 * (y 2).val = (i 2).val; rw [e, h2]; simp

/-- The kernel's output array at the end is `resultOf` of its argument arrays. -/
theorem array_eq : G8 m c = resultOf (argX m c) (argA m c)
    (argM m c) (argW m c) (argB m c) := by
  funext i
  have b0 : (i 0).val < 4 := (i 0).isLt
  have b1 : (i 1).val < 4096 := (i 1).isLt
  have b2 : (i 2).val < 128 := (i 2).isLt
  have hp : pt8Of i < cfg0.N := lt_of_lt_of_eq (by show 16 * _ + 1 * _ + 1 * _ < 16; omega) N_0.symm
  have ht : pt8Of i = (i 1).val / 256 := by show 16 * _ + 1 * _ + 1 * _ = _; omega
  have l0 : loc8Of i 0 = i 0 := Fin.ext (by show (i 0).val % 4 = (i 0).val; omega)
  have l2 : loc8Of i 2 = i 2 := Fin.ext (by show (i 2).val % 128 = (i 2).val; omega)
  have l1 : (i 1).val = pt8Of i * 256 + (loc8Of i 1).val := by
    rw [ht]; show (i 1).val = (i 1).val / 256 * 256 + (i 1).val % 256; omega
  unfold G8
  rw [dif_pos hp, ← outsAt0_sweep m c (pt8Of i) hp, block_eq m c ⟨pt8Of i, hp⟩]
  unfold blockOf resultOf
  rw [l0, l2]
  refine congrArg₂ (· + ·) (blk_b m c _ _ _ (by rw [l0]) l1 (by rw [l2])) (Finset.sum_congr rfl fun k _ => congrArg₂ (· * ·) (congrArg _ (funext fun j => ?_)) rfl)
  exact blk_adj m c _ j _ k (i 1) l1

end Cert.KernelIdeal.Values
-- ==== Proof.Reference.lean ====
/-
  What the reference computes, read at an index, and what the precondition says of the arguments.
-/
module

public import proofs.«01_k».proof.Defs
public import proofs.«01_k».proof.Proof.Gen.ReferenceIdeal.Run
public import proofs.«01_k».proof.Proof.Gen.Pre_finite
public import Idealize.ShloMosaic.Lib.Pointwise

@[expose] public section

set_option maxRecDepth 16384

noncomputable section

namespace Cert.ReferenceIdeal.Values

open Cert.ReferenceIdeal Cert.ReferenceIdeal.Gen Idealize.ShloMosaic

/-- The reference's result: mix the adjacency and the features, multiply them, multiply by the weights, add the bias. -/
def resultOf (x : Vec Ideal S4x4096x128 .f32) (adj : Vec Ideal S4x4096x4096 .f32) (M : Vec Ideal S4x4 .f32)
    (W : Vec Ideal S4x128x128 .f32) (b : Vec Ideal S4x4096x128 .f32) : Vec Ideal S4x4096x128 .f32 :=
  fun i => (∑ d : Fin 128, (∑ k : Fin 4096, (∑ j : Fin 4, M (ix2 (i 0) j) * adj (ix3 j (i 1) k)) * (∑ j : Fin 4, M (ix2 (i 0) j) * x (ix3 j k d)))
    * W (ix3 (i 0) d (i 2))) + b i

/-- The reference's chain of four contractions and an addition is `resultOf` of its arguments. -/
theorem array_eq (x : FVec Ideal S4x4096x128 .f32) (adj : FVec Ideal S4x4096x4096 .f32) (M : FVec Ideal S4x4 .f32)
    (W : FVec Ideal S4x128x128 .f32) (b : FVec Ideal S4x4096x128 .f32) :
    addf (Host.dotGeneral dot_S4x4096x128_S4x128x128_S4x4096x128_2_1_1_2_0_0 none
        (Host.dotGeneral dot_S4x4096x4096_S4x4096x128_S4x4096x128_2_1_1_2_0_0 none
          (Host.dotGeneral dot_S4x4_S4x4096x4096_S4x4096x4096_1_0_0_12_n_n none M adj)
          (Host.dotGeneral dot_S4x4_S4x4096x128_S4x4096x128_1_0_0_12_n_n none M x)) W) b
      = resultOf x adj M W b := by
  funext i
  rw [eq_ix3 i]
  pointwise [resultOf]

/-- The pattern the precondition compares with is plus infinity. -/
theorem top_bits : Ideal.ofBits .f32 0x7F800000#32 = ⊤ := by
  simp [Ideal.ofBits, Ideal.ieee]

/-- A comparison bit that is set, read: the absolute value is below plus infinity. -/
theorem below_top {v : EReal} (h : BitVec.ofBool (decide (max v (-v) < Ideal.ofBits .f32 0x7F800000#32)) = 1#1) :
    max v (-v) < ⊤ := by
  rw [top_bits] at h
  by_contra hv
  rw [decide_eq_false hv] at h
  exact absurd h (by decide)

/-- What the precondition says, entry by entry: the absolute value of every entry of the features, the adjacency, the
    mixing matrix and the weights is below plus infinity. -/
theorem finite_entries (x : FVec Ideal S4x4096x128 .f32) (adj : FVec Ideal S4x4096x4096 .f32) (M : FVec Ideal S4x4 .f32)
    (W : FVec Ideal S4x128x128 .f32) (b : FVec Ideal S4x4096x128 .f32)
    (h : (Cert.Pre_finite.fn (F := Ideal) x adj M W b).1 = (fun _ => 1#1)
      ∧ (Cert.Pre_finite.fn (F := Ideal) x adj M W b).2.1 = (fun _ => 1#1)
      ∧ (Cert.Pre_finite.fn (F := Ideal) x adj M W b).2.2.1 = (fun _ => 1#1)
      ∧ (Cert.Pre_finite.fn (F := Ideal) x adj M W b).2.2.2 = (fun _ => 1#1)) :
    (∀ i, max (x i) (-x i) < ⊤) ∧ (∀ i, max (adj i) (-adj i) < ⊤) ∧ (∀ i, max (M i) (-M i) < ⊤) ∧ ∀ i, max (W i) (-W i) < ⊤ :=
  ⟨fun i => below_top (congrFun h.1 i), fun i => below_top (congrFun h.2.1 i), fun i => below_top (congrFun h.2.2.1 i),
    fun i => below_top (congrFun h.2.2.2 i)⟩

end Cert.ReferenceIdeal.Values
-- ==== Proof.Equation.lean ====
/-
  The equation: where the features, the adjacency, the mixing matrix and the weights are finite, the kernel's formula and
  the reference's are the same array.
-/
module

public import proofs.«01_k».proof.Proof.Algebra
public import proofs.«01_k».proof.Proof.Array
public import proofs.«01_k».proof.Proof.Reference

@[expose] public section

set_option maxRecDepth 16384

noncomputable section

namespace Cert.Equation

open Idealize.ShloMosaic

/-- The kernel's array, `A (X W) + b` with the mixtures written out, is the reference's, `(A X) W + b`. -/
theorem result_eq (x : Vec Ideal Cert.KernelIdeal.S4x4096x128 .f32) (adj : Vec Ideal Cert.KernelIdeal.S4x4096x4096 .f32)
    (M : Vec Ideal Cert.KernelIdeal.S4x4 .f32) (W : Vec Ideal Cert.KernelIdeal.S4x128x128 .f32)
    (b : Vec Ideal Cert.KernelIdeal.S4x4096x128 .f32)
    (hx : ∀ i, max (x i) (-x i) < (⊤ : EReal)) (hadj : ∀ i, max (adj i) (-adj i) < (⊤ : EReal))
    (hM : ∀ i, max (M i) (-M i) < (⊤ : EReal)) (hW : ∀ i, max (W i) (-W i) < (⊤ : EReal)) :
    Cert.KernelIdeal.Values.resultOf x adj M W b = Cert.ReferenceIdeal.Values.resultOf x adj M W b :=
  funext fun i => (congrArg (b i + ·) (Cert.MProduct.mixed_reassoc (fun j => M (ix2 (i 0) j)) (fun j k => adj (ix3 j (i 1) k))
    (fun j k d => x (ix3 j k d)) (fun d => W (ix3 (i 0) d (i 2))) (fun _ => hM _) (fun _ _ => hadj _) (fun _ _ _ => hx _)
    (fun _ => hW _))).trans (add_comm _ _)

end Cert.Equation
-- ==== Proof.lean ====
/-
  The proof of the certificate's claims: the kernel runs to its end and leaves its arguments alone, as printed and over
  the extended reals; the reference does too; and on finite arguments the two leave the same result.
-/
module

public import proofs.«01_k».proof.Defs
public import proofs.«01_k».proof.Proof.Gen.Kernel.Frame
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference ends, its arguments unchanged and its semaphores at zero (it declares none). -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite features, adjacency, mixing matrix and weights the kernel's result is the reference's. -/
theorem same_result : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hx, hadj, hM, hW⟩ := Cert.ReferenceIdeal.Values.finite_entries _ _ _ _ _ (hpre c)
  rw [(h c).1]
  simp only [hagree c]
  exact (Cert.ReferenceIdeal.Values.array_eq _ _ _ _ _).trans
    ((Cert.Equation.result_eq _ _ _ _ _ hx hadj hM hW).symm.trans (Cert.KernelIdeal.Values.array_eq m c).symm)

/-- All the claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, (trivial : preserves_Kernel_KernelIdeal), same_result⟩

end Cert.Proof

end
